-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "sqrt2" .f32 0x3FB504F3#32 ((Real.sqrt 2 : ℝ) : EReal)

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S2048x4096 : Shape := ⟨2, ![2048, 4096]⟩
abbrev S2048x1 : Shape := ⟨2, ![2048, 1]⟩
abbrev S4097x1024 : Shape := ⟨2, ![4097, 1024]⟩
abbrev S1024 : Shape := ⟨1, ![1024]⟩
abbrev S1024x8192 : Shape := ⟨2, ![1024, 8192]⟩
abbrev S8192 : Shape := ⟨1, ![8192]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S2048x1 : S_.BroadcastsInDim S2048x1 (![] : Fin 0 → Fin S2048x1.rank)
  reducesTo_S2048x1_S_d0_1 : S2048x1.ReducesTo [0, 1] S_

variable [Facts]

def fn {F : FTy → Type} [FloatOps F] (main_arg0 : FVec F S2048x4096 .f32) (main_arg1 : FVec F S2048x1 .f32) (main_arg2 : FVec F S2048x1 .f32) (main_arg3 : FVec F S4097x1024 .f32) (main_arg4 : FVec F S1024 .f32) (main_arg5 : FVec F S1024x8192 .f32) (main_arg6 : FVec F S8192 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_cst_0 : FVec F S_ .f32 := constant S_ .f32 0x00000000#32
  let main_v4 : FVec F S2048x1 .f32 := broadcastInDim S2048x1 ![] bcast_S_S2048x1 main_cst_0
  let main_v5 : IVec S2048x1 1 := cmpf .ogt main_arg2 main_v4
  let main_c_1 : IVec S_ 1 := constantI S_ 1 1#1
  let main_v6 : IVec S_ 1 := (fun x v => Host.reduce IntOp.andi x v reducesTo_S2048x1_S_d0_1 h_S_) main_v5 main_c_1
  let main_v7 : IVec S_ 1 := andi main_v3 main_v6
  let main_cst_2 : FVec F S_ .f32 := constant S_ .f32 0x3F800000#32
  let main_v8 : FVec F S2048x1 .f32 := broadcastInDim S2048x1 ![] bcast_S_S2048x1 main_cst_2
  let main_v9 : IVec S2048x1 1 := cmpf .olt main_arg2 main_v8
  let main_c_3 : IVec S_ 1 := constantI S_ 1 1#1
  let main_v10 : IVec S_ 1 := (fun x v => Host.reduce IntOp.andi x v reducesTo_S2048x1_S_d0_1 h_S_) main_v9 main_c_3
  let main_v11 : IVec S_ 1 := andi main_v7 main_v10
  main_v11
-- ==== Kernel.lean ====
abbrev S2048x4096 : Shape := ⟨2, ![2048, 4096]⟩
abbrev S2048x1 : Shape := ⟨2, ![2048, 1]⟩
abbrev S4097x1024 : Shape := ⟨2, ![4097, 1024]⟩
abbrev S1024 : Shape := ⟨1, ![1024]⟩
abbrev S1024x8192 : Shape := ⟨2, ![1024, 8192]⟩
abbrev S8192 : Shape := ⟨1, ![8192]⟩
abbrev S1x1024 : Shape := ⟨2, ![1, 1024]⟩
abbrev S1x8192 : Shape := ⟨2, ![1, 8192]⟩
abbrev S2048x1024 : Shape := ⟨2, ![2048, 1024]⟩
abbrev S512x4096 : Shape := ⟨2, ![512, 4096]⟩
abbrev S512x1 : Shape := ⟨2, ![512, 1]⟩
abbrev S512x1024 : Shape := ⟨2, ![512, 1024]⟩
abbrev S4096x1024 : Shape := ⟨2, ![4096, 1024]⟩
abbrev S1024x512 : Shape := ⟨2, ![1024, 512]⟩
abbrev S1x512 : Shape := ⟨2, ![1, 512]⟩
abbrev S2048x512 : Shape := ⟨2, ![2048, 512]⟩

abbrev nBuf : Space → Nat
  | .hbm => 14
  | .vmem => 32
  | .smem => 0
  | _ => 0

abbrev bufTy : (tb : Table) → Fin (tcTables nBuf tb) → BufTy
  | .hbm, ⟨0, _⟩ => ⟨S2048x4096, .f32⟩
  | .hbm, ⟨1, _⟩ => ⟨S2048x1, .f32⟩
  | .hbm, ⟨2, _⟩ => ⟨S2048x1, .f32⟩
  | .hbm, ⟨3, _⟩ => ⟨S4097x1024, .f32⟩
  | .hbm, ⟨4, _⟩ => ⟨S1024, .f32⟩
  | .hbm, ⟨5, _⟩ => ⟨S1024x8192, .f32⟩
  | .hbm, ⟨6, _⟩ => ⟨S8192, .f32⟩
  | .hbm, ⟨7, _⟩ => ⟨S1x1024, .f32⟩
  | .hbm, ⟨8, _⟩ => ⟨S1x8192, .f32⟩
  | .hbm, ⟨9, _⟩ => ⟨S2048x1024, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x4096, .f32⟩
  | .local _ .vmem, ⟨0, _⟩ => ⟨S512x4096, .f32⟩
  | .local _ .vmem, ⟨1, _⟩ => ⟨S512x4096, .f32⟩
  | .local _ .vmem, ⟨2, _⟩ => ⟨S512x1, .f32⟩
  | .local _ .vmem, ⟨3, _⟩ => ⟨S512x1, .f32⟩
  | .local _ .vmem, ⟨4, _⟩ => ⟨S512x1, .f32⟩
  | .local _ .vmem, ⟨5, _⟩ => ⟨S512x1, .f32⟩
  | .local _ .vmem, ⟨6, _⟩ => ⟨S4097x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S2048x1024, .f32⟩
  | .local _ .vmem, ⟨17, _⟩ => ⟨S1024x512, .f32⟩
  | .local _ .vmem, ⟨18, _⟩ => ⟨S1024x512, .f32⟩
  | .local _ .vmem, ⟨19, _⟩ => ⟨S1024x512, .f32⟩
  | .local _ .vmem, ⟨20, _⟩ => ⟨S1024x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S2048x512, .f32⟩
  | .local _ .vmem, ⟨26, _⟩ => ⟨S2048x512, .f32⟩
  | .local _ .vmem, ⟨27, _⟩ => ⟨S2048x1, .f32⟩
  | .local _ .vmem, ⟨28, _⟩ => ⟨S2048x1, .f32⟩
  | .local _ .vmem, ⟨29, _⟩ => ⟨S2048x1, .f32⟩
  | .local _ .vmem, ⟨30, _⟩ => ⟨S2048x512, .f32⟩
  | .local _ .vmem, ⟨31, _⟩ => ⟨S2048x512, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg9_0 : Ref sig .tc := ⟨.vmem, 30, rfl⟩
abbrev cc1_stg9_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc1_sem0_0 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem5_1 : DmaSem sig := 26
abbrev cc1_sem6_0 : DmaSem sig := 27
abbrev cc1_sem7_0 : DmaSem sig := 28
abbrev cc1_sem8_0 : DmaSem sig := 29
abbrev cc1_sem9_0 : DmaSem sig := 30
abbrev cc1_sem9_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4097x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S2048x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2048x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S2048x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2048x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S2048x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2048x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== KernelIdeal.lean ====
variable {F : FTy → Type} [FloatOps F] [Named F]
def κ : String → Option EReal := fun
  | "sqrt2" => some ((Real.sqrt 2 : ℝ) : EReal)
  | _ => none
-- ==== ReferenceIdeal.lean ====
abbrev S2048x4096 : Shape := ⟨2, ![2048, 4096]⟩
abbrev S2048x1 : Shape := ⟨2, ![2048, 1]⟩
abbrev S4097x1024 : Shape := ⟨2, ![4097, 1024]⟩
abbrev S1024 : Shape := ⟨1, ![1024]⟩
abbrev S1024x8192 : Shape := ⟨2, ![1024, 8192]⟩
abbrev S8192 : Shape := ⟨1, ![8192]⟩
abbrev S2048x4097 : Shape := ⟨2, ![2048, 4097]⟩
abbrev S2048x1024 : Shape := ⟨2, ![2048, 1024]⟩
abbrev S1x1024 : Shape := ⟨2, ![1, 1024]⟩
abbrev S_ : Shape := ⟨0, ![]⟩
abbrev S2048x8192 : Shape := ⟨2, ![2048, 8192]⟩
abbrev S1x8192 : Shape := ⟨2, ![1, 8192]⟩
abbrev S16 : Shape := ⟨1, ![16]⟩
abbrev S2048x4096x1 : Shape := ⟨3, ![2048, 4096, 1]⟩
abbrev S1x1x16 : Shape := ⟨3, ![1, 1, 16]⟩
abbrev S2048x4096x16 : Shape := ⟨3, ![2048, 4096, 16]⟩

abbrev nBuf : Space → Nat
  | .hbm => 132
  | .vmem => 0
  | .smem => 0
  | _ => 0

abbrev hbmTy0_0 (i : Nat) : BufTy := match i % 128 with
  | 0 => ⟨S2048x4096, .f32⟩
  | 1 => ⟨S2048x1, .f32⟩
  | 2 => ⟨S2048x1, .f32⟩
  | 3 => ⟨S4097x1024, .f32⟩
  | 4 => ⟨S1024, .f32⟩
  | 5 => ⟨S1024x8192, .f32⟩
  | 6 => ⟨S8192, .f32⟩
  | 7 => ⟨S2048x4097, .f32⟩
  | 8 => ⟨S2048x1024, .f32⟩
  | 9 => ⟨S1x1024, .f32⟩
  | 10 => ⟨S2048x1024, .f32⟩
  | 11 => ⟨S2048x1024, .f32⟩
  | 12 => ⟨S_, .f32⟩
  | 13 => ⟨S2048x1024, .f32⟩
  | 14 => ⟨S2048x1024, .i1⟩
  | 15 => ⟨S_, .f32⟩
  | 16 => ⟨S2048x1024, .f32⟩
  | 17 => ⟨S2048x1024, .f32⟩
  | 18 => ⟨S2048x1024, .f32⟩
  | 19 => ⟨S2048x8192, .f32⟩
  | 20 => ⟨S1x8192, .f32⟩
  | 21 => ⟨S2048x8192, .f32⟩
  | 22 => ⟨S2048x8192, .f32⟩
  | 23 => ⟨S2048x4096, .f32⟩
  | 24 => ⟨S2048x4096, .f32⟩
  | 25 => ⟨S_, .f32⟩
  | 26 => ⟨S2048x1, .f32⟩
  | 27 => ⟨S2048x1, .f32⟩
  | 28 => ⟨S2048x1, .f32⟩
  | 29 => ⟨S2048x1, .f32⟩
  | 30 => ⟨S2048x4096, .f32⟩
  | 31 => ⟨S2048x4096, .f32⟩
  | 32 => ⟨S2048x4096, .f32⟩
  | 33 => ⟨S2048x4096, .f32⟩
  | 34 => ⟨S2048x4096, .f32⟩
  | 35 => ⟨S2048x4096, .f32⟩
  | 36 => ⟨S2048x4096, .f32⟩
  | 37 => ⟨S2048x4096, .f32⟩
  | 38 => ⟨S16, .f32⟩
  | 39 => ⟨S_, .f32⟩
  | 40 => ⟨S16, .f32⟩
  | 41 => ⟨S16, .f32⟩
  | 42 => ⟨S_, .f32⟩
  | 43 => ⟨S16, .f32⟩
  | 44 => ⟨S16, .f32⟩
  | 45 => ⟨S_, .f32⟩
  | 46 => ⟨S16, .f32⟩
  | 47 => ⟨S16, .f32⟩
  | 48 => ⟨S_, .f32⟩
  | 49 => ⟨S16, .f32⟩
  | 50 => ⟨S16, .f32⟩
  | 51 => ⟨S_, .f32⟩
  | 52 => ⟨S16, .f32⟩
  | 53 => ⟨S16, .f32⟩
  | 54 => ⟨S_, .f32⟩
  | 55 => ⟨S16, .f32⟩
  | 56 => ⟨S16, .f32⟩
  | 57 => ⟨S_, .f32⟩
  | 58 => ⟨S16, .f32⟩
  | 59 => ⟨S16, .f32⟩
  | 60 => ⟨S_, .f32⟩
  | 61 => ⟨S_, .f32⟩
  | 62 => ⟨S2048x4096, .f32⟩
  | 63 => ⟨S2048x4096, .f32⟩
  | 64 => ⟨S_, .f32⟩
  | 65 => ⟨S2048x4096, .f32⟩
  | 66 => ⟨S2048x4096, .f32⟩
  | 67 => ⟨S2048x4096x1, .f32⟩
  | 68 => ⟨S1x1x16, .f32⟩
  | 69 => ⟨S2048x4096x16, .f32⟩
  | 70 => ⟨S2048x4096x16, .f32⟩
  | 71 => ⟨S2048x4096x16, .f32⟩
  | 72 => ⟨S2048x4096x1, .f32⟩
  | 73 => ⟨S2048x4096x16, .f32⟩
  | 74 => ⟨S2048x4096x16, .f32⟩
  | 75 => ⟨S2048x4096x16, .f32⟩
  | 76 => ⟨S_, .f32⟩
  | 77 => ⟨S2048x4096x16, .f32⟩
  | 78 => ⟨S2048x4096x16, .f32⟩
  | 79 => ⟨S_, .f32⟩
  | 80 => ⟨S2048x4096x16, .f32⟩
  | 81 => ⟨S2048x4096x16, .f32⟩
  | 82 => ⟨S_, .f32⟩
  | 83 => ⟨S16, .f32⟩
  | 84 => ⟨S16, .i1⟩
  | 85 => ⟨S_, .f32⟩
  | 86 => ⟨S16, .f32⟩
  | 87 => ⟨S16, .i1⟩
  | 88 => ⟨S_, .f32⟩
  | 89 => ⟨S_, .f32⟩
  | 90 => ⟨S2048x4096x16, .i1⟩
  | 91 => ⟨S2048x4096x16, .f32⟩
  | 92 => ⟨S2048x4096x16, .f32⟩
  | 93 => ⟨S_, .f32⟩
  | 94 => ⟨S_, .f32⟩
  | 95 => ⟨S2048x4096x16, .i1⟩
  | 96 => ⟨S2048x4096x16, .f32⟩
  | 97 => ⟨S2048x4096x16, .f32⟩
  | 98 => ⟨S2048x4096x1, .f32⟩
  | 99 => ⟨S1x1x16, .f32⟩
  | 100 => ⟨S2048x4096x16, .f32⟩
  | 101 => ⟨S2048x4096x16, .f32⟩
  | 102 => ⟨S2048x4096x16, .f32⟩
  | 103 => ⟨S2048x4096x1, .f32⟩
  | 104 => ⟨S2048x4096x16, .f32⟩
  | 105 => ⟨S2048x4096x16, .f32⟩
  | 106 => ⟨S2048x4096x16, .f32⟩
  | 107 => ⟨S_, .f32⟩
  | 108 => ⟨S2048x4096x16, .f32⟩
  | 109 => ⟨S2048x4096x16, .f32⟩
  | 110 => ⟨S_, .f32⟩
  | 111 => ⟨S2048x4096x16, .f32⟩
  | 112 => ⟨S2048x4096x16, .f32⟩
  | 113 => ⟨S_, .f32⟩
  | 114 => ⟨S16, .f32⟩
  | 115 => ⟨S16, .i1⟩
  | 116 => ⟨S_, .f32⟩
  | 117 => ⟨S16, .f32⟩
  | 118 => ⟨S16, .i1⟩
  | 119 => ⟨S_, .f32⟩
  | 120 => ⟨S_, .f32⟩
  | 121 => ⟨S2048x4096x16, .i1⟩
  | 122 => ⟨S2048x4096x16, .f32⟩
  | 123 => ⟨S2048x4096x16, .f32⟩
  | 124 => ⟨S_, .f32⟩
  | 125 => ⟨S_, .f32⟩
  | 126 => ⟨S2048x4096x16, .i1⟩
  | 127 => ⟨S2048x4096x16, .f32⟩
  | _ => ⟨S2048x4096, .f32⟩

abbrev hbmTy0_1 (i : Nat) : BufTy := match i % 128 with
  | 0 => ⟨S2048x4096x16, .f32⟩
  | 1 => ⟨S2048x4096x16, .f32⟩
  | 2 => ⟨S_, .f32⟩
  | 3 => ⟨S2048x4096, .f32⟩
  | _ => ⟨S2048x4096, .f32⟩

abbrev hbmTy (i : Nat) : BufTy := match i / 128 with
  | 0 => hbmTy0_0 i
  | 1 => hbmTy0_1 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_cst_12 : Ref sig .tc := ⟨.hbm, 79, rfl⟩
abbrev main_v59 : Ref sig .tc := ⟨.hbm, 80, rfl⟩
abbrev main_v60 : Ref sig .tc := ⟨.hbm, 81, rfl⟩
abbrev main_cst_13 : Ref sig .tc := ⟨.hbm, 82, rfl⟩
abbrev main_v61 : Ref sig .tc := ⟨.hbm, 83, rfl⟩
abbrev main_v62 : Ref sig .tc := ⟨.hbm, 84, rfl⟩
abbrev main_cst_14 : Ref sig .tc := ⟨.hbm, 85, rfl⟩
abbrev main_v63 : Ref sig .tc := ⟨.hbm, 86, rfl⟩
abbrev main_v64 : Ref sig .tc := ⟨.hbm, 87, rfl⟩
abbrev main_cst_15 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_v65 : Ref sig .tc := ⟨.hbm, 92, rfl⟩
abbrev main_cst_16 : Ref sig .tc := ⟨.hbm, 93, rfl⟩
abbrev main_call2_v0 : Ref sig .tc := ⟨.hbm, 94, rfl⟩
abbrev main_call2_v1 : Ref sig .tc := ⟨.hbm, 95, rfl⟩
abbrev main_call2_v2 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_17 : Ref sig .tc := ⟨.hbm, 107, rfl⟩
abbrev main_v76 : Ref sig .tc := ⟨.hbm, 108, rfl⟩
abbrev main_v77 : Ref sig .tc := ⟨.hbm, 109, rfl⟩
abbrev main_cst_18 : Ref sig .tc := ⟨.hbm, 110, rfl⟩
abbrev main_v78 : Ref sig .tc := ⟨.hbm, 111, rfl⟩
abbrev main_v79 : Ref sig .tc := ⟨.hbm, 112, rfl⟩
abbrev main_cst_19 : Ref sig .tc := ⟨.hbm, 113, rfl⟩
abbrev main_v80 : Ref sig .tc := ⟨.hbm, 114, rfl⟩
abbrev main_v81 : Ref sig .tc := ⟨.hbm, 115, rfl⟩
abbrev main_cst_20 : Ref sig .tc := ⟨.hbm, 116, rfl⟩
abbrev main_v82 : Ref sig .tc := ⟨.hbm, 117, rfl⟩
abbrev main_v83 : Ref sig .tc := ⟨.hbm, 118, rfl⟩
abbrev main_cst_21 : Ref sig .tc := ⟨.hbm, 119, rfl⟩
abbrev main_call3_v0 : Ref sig .tc := ⟨.hbm, 120, rfl⟩
abbrev main_call3_v1 : Ref sig .tc := ⟨.hbm, 121, rfl⟩
abbrev main_call3_v2 : Ref sig .tc := ⟨.hbm, 122, rfl⟩
abbrev main_v84 : Ref sig .tc := ⟨.hbm, 123, rfl⟩
abbrev main_cst_22 : Ref sig .tc := ⟨.hbm, 124, rfl⟩
abbrev main_call4_v0 : Ref sig .tc := ⟨.hbm, 125, rfl⟩
abbrev main_call4_v1 : Ref sig .tc := ⟨.hbm, 126, rfl⟩
abbrev main_call4_v2 : Ref sig .tc := ⟨.hbm, 127, rfl⟩
abbrev main_v85 : Ref sig .tc := ⟨.hbm, 128, rfl⟩
abbrev main_v86 : Ref sig .tc := ⟨.hbm, 129, rfl⟩
abbrev main_cst_23 : Ref sig .tc := ⟨.hbm, 130, rfl⟩
abbrev main_v87 : Ref sig .tc := ⟨.hbm, 131, rfl⟩

abbrev nD : Nat := 1
abbrev τ : Topo := Topo.v7x

variable {F : FTy → Type} [FloatOps F]
-- ==== Proof.KernelRun.lean ====
/- The run of the idealized kernel, with its result read: the generated frame run keeps the argument arrays only, and
   the value claim needs the result array as well. The launch below is set up as the generated frame sets its own up;
   what it reads at the end is new: the result array, at the contents the second region's write-backs leave. -/
module

public import proofs.«01_k».proof.Proof.Gen.KernelIdeal.Frame

@[expose] public section

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion, which takes unfolding plain definitions
set_option backward.isDefEq.respectTransparency.types false in
/-- Every weakly fair execution of the idealized kernel ends, and every final state has each device's unscoped buffers at
    the contents that the last boundary's fold gives them. -/
theorem boundary : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h _ => h)

/-- The run, read: the result array at what the second region's write-backs leave, the argument arrays unchanged. -/
theorem run : θ_run defs (onTc (τ := τ) (main (F := F))) ⟨m, fun _ => 0, ρ⟩ (fun r => ∀ c : Dev nD,
      r.2.mem ((c.tc : Thread nD τ).loc main_v3) = (dat1 (V2 m ρ) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun s h c =>
    ⟨(h c _ (mem_uc main_v3 (by decide))).trans (W3_arr m ρ c 9),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c)⟩) (boundary m ρ)

end Cert.KernelIdeal.RunValue

end
-- ==== Proof.Network.lean ====
/- The function both programs compute, written once over the arguments' entries: the two dense layers with the leaky
   activation between them, and the two spellings of what one cell of the result is made of them: the kernel's closed form
   and the reference's sum over the sixteen bins. Proof/Cell.lean shows that the two spellings agree. -/
module

public import Idealize.ShloMosaic.Lib.Pointwise

@[expose] public section

noncomputable section

namespace Network

open Idealize.ShloMosaic

/-- An array of extended reals over a literal matrix shape. -/
abbrev Mat (a b : Nat) : Type := FVec Ideal ⟨2, ![a, b]⟩ .f32
/-- An array of extended reals over a literal vector shape. -/
abbrev Row (a : Nat) : Type := FVec Ideal ⟨1, ![a]⟩ .f32

/-- The leaky activation: the identity from zero up, and a small slope below. -/
def leaky (x : EReal) : EReal := if 0 ≤ x then x else Ideal.ofBits .f32 0x3C23D70A#32 * x

/-- The hidden value `k` of row `p`: the first layer of the row's features and its time, activated. -/
def hidden (mu : Mat 2048 4096) (t : Mat 2048 1) (W1 : Mat 4097 1024) (b1 : Row 1024) (p : Fin 2048) (k : Fin 1024) : EReal :=
  leaky (∑ x : Fin 4096, mu (ix2 p x) * W1 (ix2 ⟨x.val, by omega⟩ k) + t (ix2 p 0) * W1 (ix2 ⟨4096, by omega⟩ k) + b1 (ix1 k))

/-- The second layer's value `q` of a row of hidden values. -/
def dense (h : Fin 1024 → EReal) (W2 : Mat 1024 8192) (b2 : Row 8192) (q : Fin 8192) : EReal :=
  ∑ k : Fin 1024, h k * W2 (ix2 k q) + b2 (ix1 q)

/-- The noise scale of a row, from its accuracy `g`. -/
def scale (g : EReal) : EReal := Ideal.sqrt (Ideal.div (1 - g) g)

/-- One cell in closed form: the distribution function at the last bin's upper bound. -/
def closed (x g e l : EReal) : EReal :=
  ((1 / 2 : ℝ) : EReal) + ((1 / 2 : ℝ) : EReal)
    * Ideal.erf ((((7 / 8 : ℝ) : EReal) - x * Ideal.div 1 g + scale g * e)
        * (Ideal.div 1 (scale g * ((Real.sqrt 2 : ℝ) : EReal)) * Ideal.exp (0 - l)))

/-- A bound of a bin, from the bin's number. -/
def bound (k : EReal) : EReal := Ideal.div (((2 : ℝ) : EReal) * k) ((16 : ℝ) : EReal) - 1

/-- The clamped normal distribution function with mean `x` and rate `r`, at the bound `b`. -/
def cdf (x r b : EReal) : EReal :=
  if b ≤ ((-1 : ℝ) : EReal) then 0 else if 1 ≤ b then 1 else ((1 / 2 : ℝ) : EReal) * (1 + Ideal.erf ((b - x) * r))

/-- The posterior's mean in one cell. -/
def mean (x g e : EReal) : EReal := Ideal.div x g - scale g * e

/-- The posterior's rate in one cell: one over its deviation times the root of two. -/
def rate (g l : EReal) : EReal := Ideal.div 1 (scale g * Ideal.exp l * ((Real.sqrt 2 : ℝ) : EReal))

/-- One cell as the sum of the bins' probabilities. -/
def binned (x g e l : EReal) : EReal :=
  ∑ k : Fin 16, (cdf (mean x g e) (rate g l) (bound ((k.val : ℝ) : EReal))
    - cdf (mean x g e) (rate g l) (bound (((k.val : ℝ) : EReal) - 1)))

end Network

end
-- ==== Proof.Consts.lean ====
/- The float constants of the two programs as the extended reals they denote at the ideal instance. -/
module

public import Idealize.ShloMosaic.PureOps.Ideal

@[expose] public section

noncomputable section

namespace Network.Consts

open Idealize.ShloMosaic

/-- `2.0` denotes two. -/
theorem two : Ideal.ofBits .f32 0x40000000#32 = ((2 : ℝ) : EReal) := by
  simp [Ideal.ofBits, Ideal.ieee, -EReal.coe_mul]; norm_num
/-- `16.0` denotes sixteen. -/
theorem sixteen : Ideal.ofBits .f32 0x41800000#32 = ((16 : ℝ) : EReal) := by
  simp [Ideal.ofBits, Ideal.ieee, -EReal.coe_mul]; norm_num
/-- `-1.0` denotes minus one. -/
theorem minus_one : Ideal.ofBits .f32 0xBF800000#32 = ((-1 : ℝ) : EReal) := by
  simp [Ideal.ofBits, Ideal.ieee, -EReal.coe_mul]; norm_num
/-- `0.5` denotes one half. -/
theorem half : Ideal.ofBits .f32 0x3F000000#32 = ((1 / 2 : ℝ) : EReal) := by
  simp [Ideal.ofBits, Ideal.ieee, -EReal.coe_mul]; norm_num
/-- `0.875` denotes seven eighths. -/
theorem seven_eighths : Ideal.ofBits .f32 0x3F600000#32 = ((7 / 8 : ℝ) : EReal) := by
  simp [Ideal.ofBits, Ideal.ieee, -EReal.coe_mul]; norm_num
/-- The infinity's pattern denotes the top. -/
theorem inf : Ideal.ofBits .f32 0x7F800000#32 = ⊤ := by
  simp [Ideal.ofBits, Ideal.ieee]

end Network.Consts

end
-- ==== Proof.Layers.lean ====
/- The first kernel's four output arrays after its run, each read at an index, at the ideal instance and at any contents
   of its operands: the hidden values, the reciprocal of the accuracy, the noise scale, and the reciprocal of the scale
   times the root of two. -/
module

public import proofs.«01_k».proof.Proof.Gen.KernelIdeal.Frame
public import proofs.«01_k».proof.Proof.Network
public import proofs.«01_k».proof.Proof.Consts
public import Idealize.ShloMosaic.Lib.Pipeline.ValueKit

@[expose] public section

noncomputable section

namespace Cert.KernelIdeal.Layers

open Cert.KernelIdeal Cert.KernelIdeal.Gen
open Idealize.ShloMosaic Idealize.ShloMosaic.TcCoe Idealize.SL.Sem

variable (V : (c : Dev nD) → (b : Ref sig .tc) → Buf (Elt Ideal) ((c : Thread nD τ).loc b)) (c : Dev nD)

/-- The offsets of a load of the whole block are zero. -/
theorem hz : (![0, 0] : Fin 2 → Nat) = fun _ => 0 := funext fun a => by fin_cases a <;> rfl

/-- Where each window's block lies: the row blocks follow the grid point, the weights and the bias stay. -/
theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![t.val, 0] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![t.val, 0] := (by decide +kernel : ∀ t : Fin grid0.N, _)
theorem at8 : ∀ t : Fin cfg0.N, win0_8.index t = ![t.val, 0] := (by decide +kernel : ∀ t : Fin grid0.N, _)

/-- Row `a` of the block at point `t`, as a row of the whole array. -/
def place (t : Fin cfg0.N) (a : Fin 512) : Fin 2048 :=
  ⟨t.val * 512 + a.val, by have h : t.val < cfg0.N := t.isLt; have e : cfg0.N = 4 := N_0; omega⟩

/-! ## The payloads at an index -/

/-- The root of two, as the kernel names it. -/
theorem root_two : Named.named (F := Ideal) κ "sqrt2" (φ := .f32) 0x3FB504F3#32 = ((Real.sqrt 2 : ℝ) : EReal) :=
  IdealRules.named_const.ideal_named_scalar _ _ _ _ rfl

/-- The hidden payload is the activation of the row times the weights, plus the time times the last weights, plus the bias. -/
theorem hidden_pay (v0 : Vec Ideal S512x4096 .f32) (v1 : Vec Ideal S4096x1024 .f32) (v3 : Vec Ideal S512x1 .f32)
    (v4 v9 : Vec Ideal S1x1024 .f32) (a : Fin 512) (k : Fin 1024) : k0_pay2 v0 v1 v3 v4 v9 (ix2 a k)
      = Network.leaky (∑ x : Fin 4096, v0 (ix2 a x) * v1 (ix2 x k) + v3 (ix2 a 0) * v4 (ix2 0 k) + v9 (ix2 0 k)) := by
  unfold_payloads
  unfold Network.leaky
  pointwise

/-- The noise scale. -/
theorem scale_pay (g : Vec Ideal S512x1 .f32) (y : S512x1.Idx) : k0_pay3 g y = Network.scale (g y) := by
  unfold_payloads
  unfold Network.scale
  pointwise

/-- The accuracy's reciprocal. -/
theorem inverse_pay (g : Vec Ideal S512x1 .f32) (y : S512x1.Idx) : k0_pay4 g y = Ideal.div 1 (g y) := by
  unfold_payloads
  pointwise

/-- The reciprocal of the scale times the root of two. -/
theorem rate_pay (g : Vec Ideal S512x1 .f32) (y : S512x1.Idx) :
    k0_pay1 (k0_pay5 g) (k0_pay6 (F := Ideal)) y = Ideal.div 1 (Network.scale (g y) * ((Real.sqrt 2 : ℝ) : EReal)) := by
  unfold_payloads
  unfold Network.scale
  pointwise [root_two]

/-! ## The blocks at an index -/

/-- The means of the same rows as the result. -/
theorem mu_block (t : Fin cfg0.N) (a : Fin 512) (x : Fin 4096) :
    iblk0 V c 0 t (ix2 a x : S512x4096.Idx) = V c main_arg0 (ix2 (place t a) x) := by
  blk_simp [iblk0]
  refine congrArg (V c main_arg0) (funext fun b => Fin.ext ?_)
  fin_cases b <;> blk_simp [at0] <;> rfl

/-- The times of the same rows. -/
theorem time_block (t : Fin cfg0.N) (a : Fin 512) :
    iblk0 V c 1 t (ix2 a 0 : S512x1.Idx) = V c main_arg1 (ix2 (place t a) 0) := by
  blk_simp [iblk0]
  refine congrArg (V c main_arg1) (funext fun b => Fin.ext ?_)
  fin_cases b <;> blk_simp [at1] <;> rfl

/-- The accuracies of the same rows. -/
theorem gamma_block (t : Fin cfg0.N) (a : Fin 512) :
    iblk0 V c 2 t (ix2 a 0 : S512x1.Idx) = V c main_arg2 (ix2 (place t a) 0) := by
  blk_simp [iblk0]
  refine congrArg (V c main_arg2) (funext fun b => Fin.ext ?_)
  fin_cases b <;> blk_simp [at2] <;> rfl

/-- The weights but for the last row. -/
theorem weight_block (t : Fin cfg0.N) (x : Fin 4096) (k : Fin 1024) :
    View.ld (iblk0 V c 3 t) r0_1 (ix2 x k : S4096x1024.Idx) = V c main_arg3 (ix2 ⟨x.val, by omega⟩ k) := by
  blk_simp [iblk0, View.ld]
  refine congrArg (V c main_arg3) (funext fun b => Fin.ext ?_)
  fin_cases b <;> blk_simp [at3]
  · show 0 + 1 * x.val = x.val
    omega
  · show 0 + 1 * k.val = k.val
    omega

/-- The last row of the weights, which multiplies the time. -/
theorem last_block (t : Fin cfg0.N) (k : Fin 1024) :
    View.ld (iblk0 V c 3 t) r0_3 (ix2 0 k : S1x1024.Idx) = V c main_arg3 (ix2 ⟨4096, by omega⟩ k) := by
  blk_simp [iblk0, View.ld]
  refine congrArg (V c main_arg3) (funext fun b => Fin.ext ?_)
  fin_cases b <;> blk_simp [at3]
  · rfl
  · show 0 + 1 * k.val = k.val
    omega

/-- The bias comes whole. -/
theorem bias_block (t : Fin cfg0.N) (k : Fin 1024) :
    iblk0 V c 4 t (ix2 0 k : S1x1024.Idx) = V c main_v0 (ix2 0 k) := by
  blk_simp [iblk0]
  refine congrArg (V c main_v0) (funext fun b => Fin.ext ?_)
  fin_cases b <;> blk_simp [at4] <;> rfl

/-! ## The arrays -/

/-- The hidden values, from the operands. -/
def hiddenArr : FVec Ideal S2048x1024 .f32 := fun i =>
  Network.hidden (V c main_arg0) (V c main_arg1) (V c main_arg3) (fun b => V c main_v0 (ix2 0 (b 0))) (i 0) (i 1)

/-- A hidden value at a row and a column. -/
theorem hiddenArr_apply (p : Fin 2048) (k : Fin 1024) : hiddenArr V c (ix2 p k : S2048x1024.Idx)
    = Network.hidden (V c main_arg0) (V c main_arg1) (V c main_arg3) (fun b => V c main_v0 (ix2 0 (b 0))) p k := rfl

/-- The hidden values after the run. -/
theorem hidden_arr : (dat0 V c).arrAt 5 cfg0.N = hiddenArr V c := by
  refine (dat0 V c).arrAt_eq_of_covers 5 _ (by decide +kernel) fun t _ y => ?_
  blk_simp
  rw [after0_5]
  unfold out0_5
  rw [View.canon_unit_zero hz, View.ld_unit_zero hz, View.ld_unit_zero hz, View.ld_unit_zero hz]
  obtain ⟨a, k, rfl⟩ : ∃ (a : Fin 512) (k : Fin 1024), y = ix2 a k := ⟨y 0, y 1, funext fun b => by fin_cases b <;> rfl⟩
  rw [hidden_pay, time_block, last_block, bias_block]
  simp only [mu_block, weight_block]
  have e : (win0_5.blk t).view.emb (ix2 a k : S512x1024.Idx) = (ix2 (place t a) k : S2048x1024.Idx) := by
    refine funext fun b => Fin.ext ?_
    fin_cases b <;> blk_simp [at5] <;> rfl
  rw [e]
  rfl

/-- A column made row by row of the accuracy. -/
def column (f : EReal → EReal) : FVec Ideal S2048x1 .f32 := fun i => f (V c main_arg2 (ix2 (i 0) 0))

/-- A column at a row. -/
theorem column_apply (f : EReal → EReal) (p : Fin 2048) :
    column V c f (ix2 p 0 : S2048x1.Idx) = f (V c main_arg2 (ix2 p 0)) := rfl

/-- The column of reciprocals after the run. -/
theorem inverse_arr : (dat0 V c).arrAt 6 cfg0.N = column V c fun g => Ideal.div 1 g := by
  refine (dat0 V c).arrAt_eq_of_covers 6 _ (by decide +kernel) fun t _ y => ?_
  blk_simp
  rw [after0_6]
  unfold out0_6
  rw [View.canon_unit_zero hz, View.ld_unit_zero hz, inverse_pay]
  obtain ⟨a, rfl⟩ : ∃ a : Fin 512, y = (ix2 a 0 : S512x1.Idx) := ⟨y 0, funext fun b => by fin_cases b; rfl; exact Subsingleton.elim (α := Fin 1) _ _⟩
  rw [gamma_block]
  have e : (win0_6.blk t).view.emb (ix2 a 0 : S512x1.Idx) = (ix2 (place t a) 0 : S2048x1.Idx) := by
    refine funext fun b => Fin.ext ?_
    fin_cases b <;> blk_simp [at6] <;> rfl
  rw [e]
  rfl

/-- The column of noise scales after the run. -/
theorem scale_arr : (dat0 V c).arrAt 7 cfg0.N = column V c Network.scale := by
  refine (dat0 V c).arrAt_eq_of_covers 7 _ (by decide +kernel) fun t _ y => ?_
  blk_simp
  rw [after0_7]
  unfold out0_7
  rw [View.canon_unit_zero hz, View.ld_unit_zero hz, scale_pay]
  obtain ⟨a, rfl⟩ : ∃ a : Fin 512, y = (ix2 a 0 : S512x1.Idx) := ⟨y 0, funext fun b => by fin_cases b; rfl; exact Subsingleton.elim (α := Fin 1) _ _⟩
  rw [gamma_block]
  have e : (win0_7.blk t).view.emb (ix2 a 0 : S512x1.Idx) = (ix2 (place t a) 0 : S2048x1.Idx) := by
    refine funext fun b => Fin.ext ?_
    fin_cases b <;> blk_simp [at7] <;> rfl
  rw [e]
  rfl

/-- The column of scaled reciprocals after the run. -/
theorem rate_arr : (dat0 V c).arrAt 8 cfg0.N
    = column V c fun g => Ideal.div 1 (Network.scale g * ((Real.sqrt 2 : ℝ) : EReal)) := by
  refine (dat0 V c).arrAt_eq_of_covers 8 _ (by decide +kernel) fun t _ y => ?_
  blk_simp
  rw [after0_8]
  unfold out0_8
  rw [View.canon_unit_zero hz, View.ld_unit_zero hz, rate_pay]
  obtain ⟨a, rfl⟩ : ∃ a : Fin 512, y = (ix2 a 0 : S512x1.Idx) := ⟨y 0, funext fun b => by fin_cases b; rfl; exact Subsingleton.elim (α := Fin 1) _ _⟩
  rw [gamma_block]
  have e : (win0_8.blk t).view.emb (ix2 a 0 : S512x1.Idx) = (ix2 (place t a) 0 : S2048x1.Idx) := by
    refine funext fun b => Fin.ext ?_
    fin_cases b <;> blk_simp [at8] <;> rfl
  rw [e]
  rfl

end Cert.KernelIdeal.Layers

end
-- ==== Proof.Output.lean ====
/- The second kernel's output array after its run, read at an index, at the ideal instance and at any contents of its
   operands: one cell is the closed form made of the row's three columns and of two values of the second layer. -/
module

public import proofs.«01_k».proof.Proof.Gen.KernelIdeal.Frame
public import proofs.«01_k».proof.Proof.Layers
public import proofs.«01_k».proof.Proof.Network
public import proofs.«01_k».proof.Proof.Consts
public import Idealize.ShloMosaic.Lib.Pipeline.ValueKit

@[expose] public section

noncomputable section

namespace Cert.KernelIdeal.Output

open Cert.KernelIdeal Cert.KernelIdeal.Gen
open Idealize.ShloMosaic Idealize.ShloMosaic.TcCoe Idealize.SL.Sem

variable (V : (c : Dev nD) → (b : Ref sig .tc) → Buf (Elt Ideal) ((c : Thread nD τ).loc b)) (c : Dev nD)

/-- Where each window's block lies: the hidden values and the columns stay, the rest follows the grid point; the second
half of the layer's columns starts eight blocks later. -/
theorem at0 : ∀ t : Fin cfg1.N, win1_0.index t = ![0, 0] := (by decide +kernel : ∀ t : Fin grid1.N, _)
theorem at1 : ∀ t : Fin cfg1.N, win1_1.index t = ![0, t.val] := (by decide +kernel : ∀ t : Fin grid1.N, _)
theorem at2 : ∀ t : Fin cfg1.N, win1_2.index t = ![0, t.val + 8] := (by decide +kernel : ∀ t : Fin grid1.N, _)
theorem at3 : ∀ t : Fin cfg1.N, win1_3.index t = ![0, t.val] := (by decide +kernel : ∀ t : Fin grid1.N, _)
theorem at4 : ∀ t : Fin cfg1.N, win1_4.index t = ![0, t.val + 8] := (by decide +kernel : ∀ t : Fin grid1.N, _)
theorem at5 : ∀ t : Fin cfg1.N, win1_5.index t = ![0, t.val] := (by decide +kernel : ∀ t : Fin grid1.N, _)
theorem at6 : ∀ t : Fin cfg1.N, win1_6.index t = ![0, 0] := (by decide +kernel : ∀ t : Fin grid1.N, _)
theorem at7 : ∀ t : Fin cfg1.N, win1_7.index t = ![0, 0] := (by decide +kernel : ∀ t : Fin grid1.N, _)
theorem at8 : ∀ t : Fin cfg1.N, win1_8.index t = ![0, 0] := (by decide +kernel : ∀ t : Fin grid1.N, _)
theorem at9 : ∀ t : Fin cfg1.N, win1_9.index t = ![0, t.val] := (by decide +kernel : ∀ t : Fin grid1.N, _)

/-- There are eight grid points. -/
theorem point_lt (t : Fin cfg1.N) : t.val < 8 := by
  have h : t.val < cfg1.N := t.isLt
  have e : cfg1.N = 8 := N_1
  omega

/-- Column `q` of the block at point `t`, as a column of the result. -/
def place (t : Fin cfg1.N) (q : Fin 512) : Fin 4096 := ⟨t.val * 512 + q.val, by have h := point_lt t; omega⟩

/-- A column of the result as a column of the layer's first half. -/
def left (q : Fin 4096) : Fin 8192 := ⟨q.val, by omega⟩

/-- A column of the result as a column of the layer's second half. -/
def right (q : Fin 4096) : Fin 8192 := ⟨4096 + q.val, by omega⟩

/-- One cell from the row's columns and the layer's two values, in the kernel's order of operations. -/
def formula (x rg s rs e l : EReal) : EReal :=
  ((1 / 2 : ℝ) : EReal) + ((1 / 2 : ℝ) : EReal)
    * Ideal.erf ((((7 / 8 : ℝ) : EReal) - x * rg + s * e) * (rs * Ideal.exp (0 - l)))

/-- With the columns the first kernel makes, that is the closed form. -/
theorem formula_closed (x g e l : EReal) : formula x (Ideal.div 1 g) (Network.scale g)
    (Ideal.div 1 (Network.scale g * ((Real.sqrt 2 : ℝ) : EReal))) e l = Network.closed x g e l := rfl

/-- The payload at an index. -/
theorem cell_pay (h : Vec Ideal S2048x1024 .f32) (wl : Vec Ideal S1024x512 .f32) (bl : Vec Ideal S1x512 .f32)
    (wr : Vec Ideal S1024x512 .f32) (br : Vec Ideal S1x512 .f32) (x : Vec Ideal S2048x512 .f32)
    (rg s rs : Vec Ideal S2048x1 .f32) (p : Fin 2048) (q : Fin 512) :
    k1_pay1 (k1_pay2 h wl bl wr br x rg s rs) (k1_pay3 (F := Ideal)) (ix2 p q)
      = formula (x (ix2 p q)) (rg (ix2 p 0)) (s (ix2 p 0)) (rs (ix2 p 0))
          (∑ k : Fin 1024, h (ix2 p k) * wl (ix2 k q) + bl (ix2 0 q))
          (∑ k : Fin 1024, h (ix2 p k) * wr (ix2 k q) + br (ix2 0 q)) := by
  unfold_payloads
  unfold formula
  pointwise [Network.Consts.half, Network.Consts.seven_eighths]
  rfl

/-! ## The blocks at an index -/

/-- The hidden values come whole. -/
theorem hidden_block (t : Fin cfg1.N) (p : Fin 2048) (k : Fin 1024) :
    iblk1 V c 0 t (ix2 p k : S2048x1024.Idx) = V c main_v2_0 (ix2 p k) := by
  blk_simp [iblk1]
  refine congrArg (V c main_v2_0) (funext fun b => Fin.ext ?_)
  fin_cases b <;> blk_simp [at0] <;> rfl

/-- The weights' block in the first half of the columns. -/
theorem left_block (t : Fin cfg1.N) (k : Fin 1024) (q : Fin 512) :
    iblk1 V c 1 t (ix2 k q : S1024x512.Idx) = V c main_arg5 (ix2 k (left (place t q))) := by
  blk_simp [iblk1]
  refine congrArg (V c main_arg5) (funext fun b => Fin.ext ?_)
  fin_cases b <;> blk_simp [at1] <;> rfl

/-- The weights' block in the second half of the columns. -/
theorem right_block (t : Fin cfg1.N) (k : Fin 1024) (q : Fin 512) :
    iblk1 V c 2 t (ix2 k q : S1024x512.Idx) = V c main_arg5 (ix2 k (right (place t q))) := by
  blk_simp [iblk1]
  refine congrArg (V c main_arg5) (funext fun b => Fin.ext ?_)
  fin_cases b <;> blk_simp [at2]
  · rfl
  · show (t.val + 8) * 512 + q.val = 4096 + (t.val * 512 + q.val)
    omega

/-- The bias's block in the first half. -/
theorem left_bias (t : Fin cfg1.N) (q : Fin 512) :
    iblk1 V c 3 t (ix2 0 q : S1x512.Idx) = V c main_v1 (ix2 0 (left (place t q))) := by
  blk_simp [iblk1]
  refine congrArg (V c main_v1) (funext fun b => Fin.ext ?_)
  fin_cases b <;> blk_simp [at3] <;> rfl

/-- The bias's block in the second half. -/
theorem right_bias (t : Fin cfg1.N) (q : Fin 512) :
    iblk1 V c 4 t (ix2 0 q : S1x512.Idx) = V c main_v1 (ix2 0 (right (place t q))) := by
  blk_simp [iblk1]
  refine congrArg (V c main_v1) (funext fun b => Fin.ext ?_)
  fin_cases b <;> blk_simp [at4]
  · show (t.val + 8) * 512 + q.val = 4096 + (t.val * 512 + q.val)
    omega

/-- The means of the same columns as the result. -/
theorem mu_block (t : Fin cfg1.N) (p : Fin 2048) (q : Fin 512) :
    iblk1 V c 5 t (ix2 p q : S2048x512.Idx) = V c main_arg0 (ix2 p (place t q)) := by
  blk_simp [iblk1]
  refine congrArg (V c main_arg0) (funext fun b => Fin.ext ?_)
  fin_cases b <;> blk_simp [at5] <;> rfl

/-- The accuracy's reciprocal comes whole. -/
theorem inverse_block (t : Fin cfg1.N) (p : Fin 2048) :
    iblk1 V c 6 t (ix2 p 0 : S2048x1.Idx) = V c main_v2_1 (ix2 p 0) := by
  blk_simp [iblk1]
  refine congrArg (V c main_v2_1) (funext fun b => Fin.ext ?_)
  fin_cases b <;> blk_simp [at6] <;> rfl

/-- The noise scale comes whole. -/
theorem scale_block (t : Fin cfg1.N) (p : Fin 2048) :
    iblk1 V c 7 t (ix2 p 0 : S2048x1.Idx) = V c main_v2_2 (ix2 p 0) := by
  blk_simp [iblk1]
  refine congrArg (V c main_v2_2) (funext fun b => Fin.ext ?_)
  fin_cases b <;> blk_simp [at7] <;> rfl

/-- The scaled reciprocal comes whole. -/
theorem rate_block (t : Fin cfg1.N) (p : Fin 2048) :
    iblk1 V c 8 t (ix2 p 0 : S2048x1.Idx) = V c main_v2_3 (ix2 p 0) := by
  blk_simp [iblk1]
  refine congrArg (V c main_v2_3) (funext fun b => Fin.ext ?_)
  fin_cases b <;> blk_simp [at8] <;> rfl

/-! ## The array -/

/-- The second layer from the stored hidden values and the bias laid out as one row. -/
def layer (p : Fin 2048) (q : Fin 8192) : EReal :=
  Network.dense (fun k => V c main_v2_0 (ix2 p k)) (V c main_arg5) (fun b => V c main_v1 (ix2 0 (b 0))) q

/-- The result from the operands. -/
def outArr : FVec Ideal S2048x4096 .f32 := fun i =>
  formula (V c main_arg0 i) (V c main_v2_1 (ix2 (i 0) 0)) (V c main_v2_2 (ix2 (i 0) 0)) (V c main_v2_3 (ix2 (i 0) 0))
    (layer V c (i 0) (left (i 1))) (layer V c (i 0) (right (i 1)))

/-- The result at a row and a column. -/
theorem outArr_apply (p : Fin 2048) (q : Fin 4096) : outArr V c (ix2 p q : S2048x4096.Idx)
    = formula (V c main_arg0 (ix2 p q)) (V c main_v2_1 (ix2 p 0)) (V c main_v2_2 (ix2 p 0)) (V c main_v2_3 (ix2 p 0))
        (layer V c p (left q)) (layer V c p (right q)) := rfl

/-- The output array after the run. -/
theorem out_arr : (dat1 V c).arrAt 9 cfg1.N = outArr V c := by
  refine (dat1 V c).arrAt_eq_of_covers 9 _ (by decide +kernel) fun t _ y => ?_
  blk_simp
  rw [after1_9]
  unfold out1_9
  rw [View.canon_unit_zero Layers.hz]
  iterate 9 rw [View.ld_unit_zero Layers.hz]
  obtain ⟨p, q, rfl⟩ : ∃ (p : Fin 2048) (q : Fin 512), y = ix2 p q := ⟨y 0, y 1, funext fun b => by fin_cases b <;> rfl⟩
  rw [cell_pay, left_bias, right_bias, mu_block, inverse_block, scale_block, rate_block]
  simp only [hidden_block, left_block, right_block]
  have e : (win1_9.blk t).view.emb (ix2 p q : S2048x512.Idx) = (ix2 p (place t q) : S2048x4096.Idx) := by
    refine funext fun b => Fin.ext ?_
    fin_cases b <;> blk_simp [at9] <;> rfl
  rw [e]
  rfl

end Cert.KernelIdeal.Output

end
-- ==== Proof.KernelValue.lean ====
/- The kernel's result read at an index, from the arguments: the two kernels' arrays put together with the two biases the
   program lays out as rows beforehand. -/
module

public import proofs.«01_k».proof.Proof.Layers
public import proofs.«01_k».proof.Proof.Output
public import Idealize.ShloMosaic.Lib.ValueLayout

@[expose] public section

noncomputable section

namespace Cert.KernelIdeal.KernelValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- An index of a row is the one its entry names. -/
theorem row_index {n : Nat} (b : (⟨1, ![n]⟩ : Shape).Idx) : ix1 (b 0) = b := funext fun a => by fin_cases a; rfl

/-- The first bias, laid out as one row. -/
theorem first_row (k : Fin 1024) : V1 m ρ c main_v0 (ix2 0 k) = m ((c.tc : Thread nD τ).loc main_arg4) (ix1 k) := by
  have e : V1 m ρ c main_v0 = shapeCast S1x1024 (m ((c.tc : Thread nD τ).loc main_arg4)) shapeCasts_S1024_S1x1024 := by
    show StableHlo.after hostOps0 (W0 m ρ c) (Proc.devRef .tc main_v0) = _
    after_results
    rfl
  rw [e]
  exact ValueIdx.shapeCast_a_1a_apply _ _ 0 k

/-- The second bias, laid out as one row. -/
theorem second_row (k : Fin 8192) : V1 m ρ c main_v1 (ix2 0 k) = m ((c.tc : Thread nD τ).loc main_arg6) (ix1 k) := by
  have e : V1 m ρ c main_v1 = shapeCast S1x8192 (m ((c.tc : Thread nD τ).loc main_arg6)) shapeCasts_S8192_S1x8192 := by
    show StableHlo.after hostOps0 (W0 m ρ c) (Proc.devRef .tc main_v1) = _
    after_results
    rfl
  rw [e]
  exact ValueIdx.shapeCast_a_1a_apply _ _ 0 k

/-- The hidden values as the second kernel finds them. -/
theorem hidden_entry (p : Fin 2048) (k : Fin 1024) : V2 m ρ c main_v2_0 (ix2 p k)
    = Network.hidden (m ((c.tc : Thread nD τ).loc main_arg0)) (m ((c.tc : Thread nD τ).loc main_arg1))
        (m ((c.tc : Thread nD τ).loc main_arg3)) (m ((c.tc : Thread nD τ).loc main_arg4)) p k := by
  have e : V2 m ρ c main_v2_0 = Layers.hiddenArr (V1 m ρ) c := (W2_arr m ρ c 5).trans (Layers.hidden_arr (V1 m ρ) c)
  have h0 : V1 m ρ c main_arg0 = m ((c.tc : Thread nD τ).loc main_arg0) := W1_of m ρ c main_arg0 (by decide)
  have h1 : V1 m ρ c main_arg1 = m ((c.tc : Thread nD τ).loc main_arg1) := W1_of m ρ c main_arg1 (by decide)
  have h3 : V1 m ρ c main_arg3 = m ((c.tc : Thread nD τ).loc main_arg3) := W1_of m ρ c main_arg3 (by decide)
  have hb : (fun b : S1024.Idx => V1 m ρ c main_v0 (ix2 0 (b 0))) = m ((c.tc : Thread nD τ).loc main_arg4) :=
    funext fun b => (first_row m ρ c (b 0)).trans (congrArg (m ((c.tc : Thread nD τ).loc main_arg4)) (row_index b))
  rw [e, Layers.hiddenArr_apply, h0, h1, h3]
  exact congrArg (fun r => Network.hidden _ _ _ r p k) hb

/-- A column the first kernel makes of the accuracy, as the second kernel finds it. -/
theorem column_entry (f : EReal → EReal) (p : Fin 2048) : Layers.column (V1 m ρ) c f (ix2 p 0)
    = f (m ((c.tc : Thread nD τ).loc main_arg2) (ix2 p 0)) := by
  have h2 : V1 m ρ c main_arg2 = m ((c.tc : Thread nD τ).loc main_arg2) := W1_of m ρ c main_arg2 (by decide)
  rw [Layers.column_apply, h2]

/-- The second layer as the second kernel computes it. -/
theorem layer_entry (p : Fin 2048) (q : Fin 8192) : Output.layer (V2 m ρ) c p q
    = Network.dense (Network.hidden (m ((c.tc : Thread nD τ).loc main_arg0)) (m ((c.tc : Thread nD τ).loc main_arg1))
          (m ((c.tc : Thread nD τ).loc main_arg3)) (m ((c.tc : Thread nD τ).loc main_arg4)) p)
        (m ((c.tc : Thread nD τ).loc main_arg5)) (m ((c.tc : Thread nD τ).loc main_arg6)) q := by
  have h5 : V2 m ρ c main_arg5 = m ((c.tc : Thread nD τ).loc main_arg5) :=
    (W2_of m ρ c main_arg5 (by decide)).trans (W1_of m ρ c main_arg5 (by decide))
  have h6 : V2 m ρ c main_v1 = V1 m ρ c main_v1 := W2_of m ρ c main_v1 (by decide)
  unfold Output.layer
  rw [h5, h6]
  have hb : (fun b : S8192.Idx => V1 m ρ c main_v1 (ix2 0 (b 0))) = m ((c.tc : Thread nD τ).loc main_arg6) :=
    funext fun b => (second_row m ρ c (b 0)).trans (congrArg (m ((c.tc : Thread nD τ).loc main_arg6)) (row_index b))
  exact (congrArg (fun r => Network.dense _ _ r q) hb).trans
    (congrArg (fun h => Network.dense h _ _ q) (funext fun k => hidden_entry m ρ c p k))

/-- The kernel's result at an index, from the arguments. -/
theorem result_apply (p : Fin 2048) (q : Fin 4096) : (dat1 (V2 m ρ) c).arrAt 9 cfg1.N (ix2 p q : S2048x4096.Idx)
    = Network.closed (m ((c.tc : Thread nD τ).loc main_arg0) (ix2 p q)) (m ((c.tc : Thread nD τ).loc main_arg2) (ix2 p 0))
        (Network.dense (Network.hidden (m ((c.tc : Thread nD τ).loc main_arg0)) (m ((c.tc : Thread nD τ).loc main_arg1))
            (m ((c.tc : Thread nD τ).loc main_arg3)) (m ((c.tc : Thread nD τ).loc main_arg4)) p)
          (m ((c.tc : Thread nD τ).loc main_arg5)) (m ((c.tc : Thread nD τ).loc main_arg6)) ⟨q.val, by omega⟩)
        (Network.dense (Network.hidden (m ((c.tc : Thread nD τ).loc main_arg0)) (m ((c.tc : Thread nD τ).loc main_arg1))
            (m ((c.tc : Thread nD τ).loc main_arg3)) (m ((c.tc : Thread nD τ).loc main_arg4)) p)
          (m ((c.tc : Thread nD τ).loc main_arg5)) (m ((c.tc : Thread nD τ).loc main_arg6)) ⟨4096 + q.val, by omega⟩) := by
  have h0 : V2 m ρ c main_arg0 = m ((c.tc : Thread nD τ).loc main_arg0) :=
    (W2_of m ρ c main_arg0 (by decide)).trans (W1_of m ρ c main_arg0 (by decide))
  have h6 : V2 m ρ c main_v2_1 = Layers.column (V1 m ρ) c fun g => Ideal.div 1 g :=
    (W2_arr m ρ c 6).trans (Layers.inverse_arr (V1 m ρ) c)
  have h7 : V2 m ρ c main_v2_2 = Layers.column (V1 m ρ) c Network.scale :=
    (W2_arr m ρ c 7).trans (Layers.scale_arr (V1 m ρ) c)
  have h8 : V2 m ρ c main_v2_3
      = Layers.column (V1 m ρ) c fun g => Ideal.div 1 (Network.scale g * ((Real.sqrt 2 : ℝ) : EReal)) :=
    (W2_arr m ρ c 8).trans (Layers.rate_arr (V1 m ρ) c)
  rw [Output.out_arr, Output.outArr_apply, h0, h6, h7, h8, column_entry, column_entry, column_entry, layer_entry, layer_entry]
  exact Output.formula_closed _ _ _ _

end Cert.KernelIdeal.KernelValue

end
-- ==== Proof.Reference.lean ====
/- The reference's arrays, stage by stage, at the ideal instance, each read at an index. -/
module

public import proofs.«01_k».proof.Proof.Gen.ReferenceIdeal.Run
public import proofs.«01_k».proof.Proof.Network
public import proofs.«01_k».proof.Proof.Consts

@[expose] public section

noncomputable section

namespace Cert.ReferenceIdeal.Stage

open Cert.ReferenceIdeal Cert.ReferenceIdeal.Gen Cert.ReferenceIdeal.Value
open Idealize.ShloMosaic Idealize.ShloMosaic.TcCoe Idealize.SL.Sem

variable (mu : FVec Ideal S2048x4096 .f32) (t gamma : FVec Ideal S2048x1 .f32) (W1 : FVec Ideal S4097x1024 .f32)
  (b1 : FVec Ideal S1024 .f32) (W2 : FVec Ideal S1024x8192 .f32) (b2 : FVec Ideal S8192 .f32)

/-- The first layer before its activation. -/
def layer : FVec Ideal S2048x1024 .f32 :=
  addf (Host.dotGeneral dot_S2048x4097_S4097x1024_S2048x1024_1_0_0_1_n_n none
      (concatenate S2048x4097 1 [⟨S2048x4096, mu⟩, ⟨S2048x1, t⟩] concatenates_S2048x4096_S2048x1_S2048x4097_d1) W1)
    (broadcastInDim S2048x1024 ![0, 1] bcast_S1x1024_S2048x1024_0_1 (broadcastInDim S1x1024 ![1] bcast_S1024_S1x1024_1 b1))

/-- The leaky activation of an array. -/
def leaky (x : FVec Ideal S2048x1024 .f32) : FVec Ideal S2048x1024 .f32 :=
  select (cmpf .oge x (broadcastInDim S2048x1024 ![] bcast_S_S2048x1024 (constant S_ .f32 0x00000000#32))) x
    (mulf (broadcastInDim S2048x1024 ![] bcast_S_S2048x1024 (constant S_ .f32 0x3C23D70A#32)) x)

/-- The second layer of an array of hidden values. -/
def head (h : FVec Ideal S2048x1024 .f32) : FVec Ideal S2048x8192 .f32 :=
  addf (Host.dotGeneral dot_S2048x1024_S1024x8192_S2048x8192_1_0_0_1_n_n none h W2)
    (broadcastInDim S2048x8192 ![0, 1] bcast_S1x8192_S2048x8192_0_1 (broadcastInDim S1x8192 ![1] bcast_S8192_S1x8192_1 b2))

/-- The noise scale of each row. -/
def scale : FVec Ideal S2048x1 .f32 :=
  Host.sqrt (Host.divf (subf (broadcastInDim S2048x1 ![] bcast_S_S2048x1 (constant S_ .f32 0x3F800000#32)) gamma) gamma)

/-- The posterior's mean. -/
def mean (n : FVec Ideal S2048x8192 .f32) : FVec Ideal S2048x4096 .f32 :=
  subf (Host.divf mu (broadcastInDim S2048x4096 ![0, 1] bcast_S2048x1_S2048x4096_0_1 gamma))
    (mulf (broadcastInDim S2048x4096 ![0, 1] bcast_S2048x1_S2048x4096_0_1 (scale gamma))
      (extractStridedSlice S2048x4096 ![0, 0] n slices_S2048x8192_S2048x4096_0_0))

/-- One over the posterior's deviation times the root of two. -/
def rate (n : FVec Ideal S2048x8192 .f32) : FVec Ideal S2048x4096 .f32 :=
  Host.divf (broadcastInDim S2048x4096 ![] bcast_S_S2048x4096 (constant S_ .f32 0x3F800000#32))
    (mulf (mulf (broadcastInDim S2048x4096 ![0, 1] bcast_S2048x1_S2048x4096_0_1 (scale gamma))
        (Host.exp (extractStridedSlice S2048x4096 ![0, 4096] n slices_S2048x8192_S2048x4096_0_4096)))
      (broadcastInDim S2048x4096 ![] bcast_S_S2048x4096 (Host.sqrt (constant S_ .f32 0x40000000#32))))

/-- The bins' bounds, from their numbers. -/
def bounds (k : FVec Ideal S16 .f32) : FVec Ideal S16 .f32 :=
  subf (Host.divf (mulf (broadcastInDim S16 ![] bcast_S_S16 (constant S_ .f32 0x40000000#32)) k)
      (broadcastInDim S16 ![] bcast_S_S16 (constant S_ .f32 0x41800000#32)))
    (broadcastInDim S16 ![] bcast_S_S16 (constant S_ .f32 0x3F800000#32))

/-- The bins' numbers. -/
def number : FVec Ideal S16 .f32 := sitofp .f32 (iotaInDim S16 32 0)

/-- The bins' numbers less one. -/
def before : FVec Ideal S16 .f32 := subf number (broadcastInDim S16 ![] bcast_S_S16 (constant S_ .f32 0x3F800000#32))

/-- The clamped distribution function at every bound. -/
def cdf (x r : FVec Ideal S2048x4096 .f32) (b : FVec Ideal S16 .f32) : FVec Ideal S2048x4096x16 .f32 :=
  select (broadcastInDim S2048x4096x16 ![2] bcast_S16_S2048x4096x16_2
      (cmpf .ole b (broadcastInDim S16 ![] bcast_S_S16 (constant S_ .f32 0xBF800000#32))))
    (broadcastInDim S2048x4096x16 ![] bcast_S_S2048x4096x16 (id (constant S_ .f32 0x00000000#32)))
    (select (broadcastInDim S2048x4096x16 ![2] bcast_S16_S2048x4096x16_2
        (cmpf .oge b (broadcastInDim S16 ![] bcast_S_S16 (constant S_ .f32 0x3F800000#32))))
      (broadcastInDim S2048x4096x16 ![] bcast_S_S2048x4096x16 (id (constant S_ .f32 0x3F800000#32)))
      (mulf (broadcastInDim S2048x4096x16 ![] bcast_S_S2048x4096x16 (constant S_ .f32 0x3F000000#32))
        (addf (broadcastInDim S2048x4096x16 ![] bcast_S_S2048x4096x16 (constant S_ .f32 0x3F800000#32))
          (Host.erf (mulf
            (subf (broadcastInDim S2048x4096x16 ![0, 1, 2] bcast_S1x1x16_S2048x4096x16_0_1_2 (broadcastInDim S1x1x16 ![2] bcast_S16_S1x1x16_2 b))
              (broadcastInDim S2048x4096x16 ![0, 1, 2] bcast_S2048x4096x1_S2048x4096x16_0_1_2
                (broadcastInDim S2048x4096x1 ![0, 1] bcast_S2048x4096_S2048x4096x1_0_1 x)))
            (broadcastInDim S2048x4096x16 ![0, 1, 2] bcast_S2048x4096x1_S2048x4096x16_0_1_2
              (broadcastInDim S2048x4096x1 ![0, 1] bcast_S2048x4096_S2048x4096x1_0_1 r)))))))

/-- The sum of the bins' probabilities. -/
def total (n : FVec Ideal S2048x8192 .f32) : FVec Ideal S2048x4096 .f32 :=
  Host.reduceAdd (subf (cdf (mean mu gamma n) (rate gamma n) (bounds number)) (cdf (mean mu gamma n) (rate gamma n) (bounds before)))
    (constant S_ .f32 0x00000000#32) reducesTo_S2048x4096x16_S2048x4096_d2 h_S_

/-- The reference's result is the last of the stages. -/
theorem result_eq (m : (ℓ : Loc nD τ sig) → Buf (Elt Ideal) ℓ) (c : Dev nD) :
    res_main_v87 (F := Ideal) m c
      = total (m ((c.tc : Thread nD τ).loc main_arg0)) (m ((c.tc : Thread nD τ).loc main_arg2))
          (head (m ((c.tc : Thread nD τ).loc main_arg5)) (m ((c.tc : Thread nD τ).loc main_arg6))
            (leaky (layer (m ((c.tc : Thread nD τ).loc main_arg0)) (m ((c.tc : Thread nD τ).loc main_arg1))
              (m ((c.tc : Thread nD τ).loc main_arg3)) (m ((c.tc : Thread nD τ).loc main_arg4))))) := rfl

/-- A pre-activation of the first layer: the joined row is read part by part. -/
theorem layer_apply (p : Fin 2048) (k : Fin 1024) : layer mu t W1 b1 (ix2 p k)
    = ∑ x : Fin 4096, mu (ix2 p x) * W1 (ix2 ⟨x.val, by omega⟩ k) + t (ix2 p 0) * W1 (ix2 ⟨4096, by omega⟩ k) + b1 (ix1 k) := by
  unfold layer
  pointwise
  rw [Fin.sum_univ_one]

/-- The activation at an index. -/
theorem leaky_apply (x : FVec Ideal S2048x1024 .f32) (p : Fin 2048) (k : Fin 1024) :
    leaky x (ix2 p k) = Network.leaky (x (ix2 p k)) := by
  unfold leaky Network.leaky
  pointwise

/-- The second layer at an index. -/
theorem head_apply (h : FVec Ideal S2048x1024 .f32) (p : Fin 2048) (q : Fin 8192) :
    head W2 b2 h (ix2 p q) = Network.dense (fun k => h (ix2 p k)) W2 b2 q := by
  unfold head Network.dense
  pointwise

/-- The noise scale at a row. -/
theorem scale_apply (p : Fin 2048) : scale gamma (ix2 p 0) = Network.scale (gamma (ix2 p 0)) := by
  unfold scale Network.scale
  pointwise

/-- The posterior's mean at an index. -/
theorem mean_apply (n : FVec Ideal S2048x8192 .f32) (p : Fin 2048) (q : Fin 4096) :
    mean mu gamma n (ix2 p q) = Network.mean (mu (ix2 p q)) (gamma (ix2 p 0)) (n (ix2 p ⟨q.val, by omega⟩)) := by
  unfold mean Network.mean
  pointwise [scale_apply]

/-- The posterior's rate at an index. -/
theorem rate_apply (n : FVec Ideal S2048x8192 .f32) (p : Fin 2048) (q : Fin 4096) :
    rate gamma n (ix2 p q) = Network.rate (gamma (ix2 p 0)) (n (ix2 p ⟨4096 + q.val, by omega⟩)) := by
  unfold rate Network.rate
  pointwise [scale_apply, Network.Consts.two, Ideal.sqrt_coe]
  rw [if_neg (by norm_num)]

/-- A bound at a bin. -/
theorem bounds_apply (b : FVec Ideal S16 .f32) (k : Fin 16) : bounds b (ix1 k) = Network.bound (b (ix1 k)) := by
  unfold bounds Network.bound
  pointwise [Network.Consts.two, Network.Consts.sixteen]

/-- A bin's number. -/
theorem number_apply (k : Fin 16) : number (ix1 k) = ((k.val : ℝ) : EReal) := by
  unfold number
  pointwise
  show (((BitVec.ofNat 32 k.val).toInt : ℝ) : EReal) = _
  have h : (BitVec.ofNat 32 k.val).toInt = (k.val : ℤ) := by
    revert k; decide
  rw [h]; norm_cast

/-- A bin's number less one. -/
theorem before_apply (k : Fin 16) : before (ix1 k) = ((k.val : ℝ) : EReal) - 1 := by
  unfold before
  pointwise [number_apply]

/-- The clamped distribution function at an index. -/
theorem cdf_apply (x r : FVec Ideal S2048x4096 .f32) (b : FVec Ideal S16 .f32) (p : Fin 2048) (q : Fin 4096) (k : Fin 16) :
    cdf x r b (ix3 p q k) = Network.cdf (x (ix2 p q)) (r (ix2 p q)) (b (ix1 k)) := by
  unfold cdf Network.cdf
  pointwise [id, Network.Consts.minus_one, Network.Consts.half]

/-- A cell of the result is the sum of its bins' probabilities. -/
theorem total_apply (n : FVec Ideal S2048x8192 .f32) (p : Fin 2048) (q : Fin 4096) :
    total mu gamma n (ix2 p q) = Network.binned (mu (ix2 p q)) (gamma (ix2 p 0))
      (n (ix2 p ⟨q.val, by omega⟩)) (n (ix2 p ⟨4096 + q.val, by omega⟩)) := by
  unfold total Network.binned
  pointwise [cdf_apply, mean_apply, rate_apply, bounds_apply, number_apply, before_apply]

/-- The reference's result at an index, from the arguments. -/
theorem result_apply (m : (ℓ : Loc nD τ sig) → Buf (Elt Ideal) ℓ) (c : Dev nD) (p : Fin 2048) (q : Fin 4096) :
    res_main_v87 (F := Ideal) m c (ix2 p q)
      = Network.binned (m ((c.tc : Thread nD τ).loc main_arg0) (ix2 p q)) (m ((c.tc : Thread nD τ).loc main_arg2) (ix2 p 0))
          (Network.dense (Network.hidden (m ((c.tc : Thread nD τ).loc main_arg0)) (m ((c.tc : Thread nD τ).loc main_arg1))
              (m ((c.tc : Thread nD τ).loc main_arg3)) (m ((c.tc : Thread nD τ).loc main_arg4)) p)
            (m ((c.tc : Thread nD τ).loc main_arg5)) (m ((c.tc : Thread nD τ).loc main_arg6)) ⟨q.val, by omega⟩)
          (Network.dense (Network.hidden (m ((c.tc : Thread nD τ).loc main_arg0)) (m ((c.tc : Thread nD τ).loc main_arg1))
              (m ((c.tc : Thread nD τ).loc main_arg3)) (m ((c.tc : Thread nD τ).loc main_arg4)) p)
            (m ((c.tc : Thread nD τ).loc main_arg5)) (m ((c.tc : Thread nD τ).loc main_arg6)) ⟨4096 + q.val, by omega⟩) := by
  rw [result_eq]
  refine (total_apply _ _ _ p q).trans ?_
  rw [head_apply, head_apply]
  simp only [leaky_apply, layer_apply]
  rfl

end Cert.ReferenceIdeal.Stage

end
-- ==== Proof.Cell.lean ====
/- One cell: the sum over the bins telescopes to the distribution function at the last bin's upper bound, whose argument
   is the kernel's product rearranged. The feature is a real and the accuracy lies strictly between 0 and 1; the two
   outputs of the network may be any extended reals. -/
module

public import proofs.«01_k».proof.Proof.Network

@[expose] public section

noncomputable section

namespace Network

open Idealize.ShloMosaic

/-- The error function is real everywhere. -/
theorem erf_real (x : EReal) : ∃ r : ℝ, Ideal.erf x = (r : EReal) := by
  induction x with
  | bot => exact ⟨-1, by simp⟩
  | top => exact ⟨1, by simp⟩
  | coe r => exact ⟨_, Ideal.erf_coe r⟩

/-- The clamped distribution function is real everywhere. -/
theorem cdf_real (x r b : EReal) : ∃ y : ℝ, cdf x r b = (y : EReal) := by
  unfold cdf
  split
  · exact ⟨0, by simp⟩
  split
  · exact ⟨1, by simp⟩
  obtain ⟨y, hy⟩ := erf_real ((b - x) * r)
  exact ⟨1 / 2 * (1 + y), by rw [hy]; norm_cast⟩

/-- A bound at a real bin number is a real. -/
theorem bound_coe (k : ℝ) : bound (k : EReal) = ((k / 8 - 1 : ℝ) : EReal) := by
  unfold bound
  rw [Ideal.div_coe (by norm_num), ← EReal.coe_one, ← EReal.coe_mul, ← EReal.coe_mul, ← EReal.coe_sub]
  congr 1; ring

/-- A telescoping sum of real values. -/
theorem telescope (f : ℕ → ℝ) (n : ℕ) : ∑ k : Fin n, (((f (k.val + 1) : ℝ) : EReal) - ((f k.val : ℝ) : EReal)) = ((f n - f 0 : ℝ) : EReal) := by
  rw [← Finset.sum_range_sub f n, Finset.sum_range]
  induction n with
  | zero => simp
  | succ n ih => rw [Fin.sum_univ_castSucc, Fin.sum_univ_castSucc, EReal.coe_add, EReal.coe_sub]; exact congrArg (· + _) ih

/-- The distribution function is nothing at the first bin's lower bound. -/
theorem cdf_low (x r : EReal) : cdf x r ((((0 : ℕ) : ℝ) - 1) / 8 - 1 : ℝ) = 0 := by
  unfold cdf
  rw [if_pos]
  exact EReal.coe_le_coe_iff.mpr (by norm_num)

/-- At the last bin's upper bound no clamp acts. -/
theorem cdf_high (x r : EReal) : cdf x r ((((16 : ℕ) : ℝ) - 1) / 8 - 1 : ℝ)
    = ((1 / 2 : ℝ) : EReal) * (1 + Ideal.erf ((((7 / 8 : ℝ) : EReal) - x) * r)) := by
  have e : ((((16 : ℕ) : ℝ) - 1) / 8 - 1 : ℝ) = 7 / 8 := by norm_num
  rw [e]
  unfold cdf
  rw [if_neg, if_neg]
  · rw [← EReal.coe_one, EReal.coe_le_coe_iff]; norm_num
  · rw [EReal.coe_le_coe_iff]; norm_num

/-- The sum of the bins' probabilities is the distribution function at the last bin's upper bound. -/
theorem binned_eq (x g e l : EReal) : binned x g e l
    = ((1 / 2 : ℝ) : EReal) * (1 + Ideal.erf ((((7 / 8 : ℝ) : EReal) - mean x g e) * rate g l)) := by
  unfold binned
  choose f hf using fun n : ℕ => cdf_real (mean x g e) (rate g l) ((((n : ℝ) - 1) / 8 - 1 : ℝ) : EReal)
  have h : ∀ k : Fin 16, cdf (mean x g e) (rate g l) (bound ((k.val : ℝ) : EReal))
      - cdf (mean x g e) (rate g l) (bound (((k.val : ℝ) : EReal) - 1)) = ((f (k.val + 1) : ℝ) : EReal) - ((f k.val : ℝ) : EReal) := by
    intro k
    rw [← hf, ← hf, ← EReal.coe_one, ← EReal.coe_sub, bound_coe, bound_coe]
    congr 3; push_cast; ring
  rw [Finset.sum_congr rfl fun k _ => h k, telescope, EReal.coe_sub, ← hf, ← hf, cdf_low, cdf_high, sub_zero]

/-- The noise scale is a positive real. -/
theorem scale_real {g : ℝ} (h0 : 0 < g) (h1 : g < 1) : ∃ s : ℝ, 0 < s ∧ scale (g : EReal) = (s : EReal) := by
  have h : 0 < (1 - g) * (1 / g) := by have := one_div_pos.mpr h0; nlinarith
  refine ⟨Real.sqrt ((1 - g) * (1 / g)), Real.sqrt_pos.mpr h, ?_⟩
  unfold scale
  rw [Ideal.div_coe h0.ne', ← EReal.coe_one, ← EReal.coe_sub, ← EReal.coe_mul, Ideal.sqrt_coe, if_neg h.le.not_gt]

/-- The two distances to the upper bound: for a real quotient the bracket moves, whatever the correction is. -/
theorem sub_sub_real (a b : ℝ) (y : EReal) : (a : EReal) - ((b : EReal) - y) = (a : EReal) - (b : EReal) + y := by
  induction y with
  | bot => simp [sub_eq_add_neg]
  | top => simp [sub_eq_add_neg]
  | coe y => norm_cast; ring_nf

/-- The two rates: one over a product with an exponential is the product with the opposite exponential. -/
theorem rate_eq {s q : ℝ} (hs : 0 < s) (hq : 0 < q) (l : EReal) :
    Ideal.div 1 ((s : EReal) * Ideal.exp l * (q : EReal)) = Ideal.div 1 ((s : EReal) * (q : EReal)) * Ideal.exp (0 - l) := by
  have hsq : 0 < s * q := mul_pos hs hq
  rw [← EReal.coe_mul, Ideal.div_coe hsq.ne', one_mul]
  induction l with
  | bot =>
    have : (0 : EReal) - ⊥ = ⊤ := by simp [sub_eq_add_neg]
    rw [this, Ideal.exp_bot, Ideal.exp_top, mul_zero, zero_mul, EReal.coe_mul_top_of_pos (one_div_pos.mpr hsq)]
    simp [Ideal.div]
  | top =>
    have : (0 : EReal) - ⊤ = ⊥ := by simp [sub_eq_add_neg]
    rw [this, Ideal.exp_bot, Ideal.exp_top, mul_zero, EReal.coe_mul_top_of_pos hs, EReal.top_mul_coe_of_pos hq]
    simp [Ideal.div]
  | coe l =>
    have : (0 : EReal) - (l : EReal) = ((-l : ℝ) : EReal) := by norm_cast; ring
    have hne : s * Real.exp l * q ≠ 0 := (mul_pos (mul_pos hs (Real.exp_pos l)) hq).ne'
    rw [this, Ideal.exp_coe, Ideal.exp_coe, ← EReal.coe_mul, ← EReal.coe_mul, Ideal.div_coe hne, one_mul, ← EReal.coe_mul]
    congr 1
    rw [Real.exp_neg]
    have := (Real.exp_pos l).ne'
    field_simp

/-- The two spellings of one cell agree. -/
theorem cell (x g : ℝ) (h0 : 0 < g) (h1 : g < 1) (e l : EReal) : binned (x : EReal) (g : EReal) e l = closed (x : EReal) (g : EReal) e l := by
  rw [binned_eq]
  unfold closed mean rate
  obtain ⟨s, hs, hse⟩ := scale_real h0 h1
  rw [hse, rate_eq hs (Real.sqrt_pos.mpr (by norm_num)), Ideal.div_coe h0.ne', Ideal.div_coe h0.ne', one_mul, ← EReal.coe_mul, sub_sub_real]
  obtain ⟨r, hr⟩ := erf_real ((((7 / 8 : ℝ) : EReal) - ((x * (1 / g) : ℝ) : EReal) + (s : EReal) * e)
    * (Ideal.div 1 ((s : EReal) * ((Real.sqrt 2 : ℝ) : EReal)) * Ideal.exp (0 - l)))
  rw [hr]
  norm_cast
  ring

end Network

end
-- ==== Proof.Pre.lean ====
/- What the precondition says of one device's arguments: every mean is a real number, and every accuracy is a real number
   strictly between zero and one. -/
module

public import proofs.«01_k».proof.Proof.Gen.Pre_pre
public import proofs.«01_k».proof.Proof.Consts
public import Idealize.ShloMosaic.Lib.ReduceAll
public import Idealize.ShloMosaic.Lib.Pointwise

@[expose] public section

noncomputable section

namespace Cert.Pre_pre.Read

open Cert.Pre_pre Cert.Pre_pre.Gen
open Idealize.ShloMosaic

variable (a0 : FVec Ideal S2048x4096 .f32) (a1 a2 : FVec Ideal S2048x1 .f32) (a3 : FVec Ideal S4097x1024 .f32)
  (a4 : FVec Ideal S1024 .f32) (a5 : FVec Ideal S1024x8192 .f32) (a6 : FVec Ideal S8192 .f32)

instance : Subsingleton S_.Idx := ⟨fun i j => funext fun a => a.elim0⟩

/-- The test's answer is one exactly when its comparison holds. -/
theorem holds {P : Prop} [Decidable P] (h : BitVec.ofBool (decide P) = 1#1) : P := by
  by_cases hp : P
  · exact hp
  · simp [hp] at h

/-- A number whose absolute value lies below infinity is real. -/
theorem real_of_abs {x : EReal} (h : max x (-x) < ⊤) : ∃ r : ℝ, x = r := by
  induction x with
  | bot => simp at h
  | top => simp at h
  | coe r => exact ⟨r, rfl⟩

/-- A number strictly between zero and one is real. -/
theorem real_of_between {x : EReal} (h0 : 0 < x) (h1 : x < 1) : ∃ r : ℝ, x = r ∧ 0 < r ∧ r < 1 := by
  induction x with
  | bot => simp at h0
  | top => simp at h1
  | coe r => exact ⟨r, rfl, by exact_mod_cast h0, by exact_mod_cast h1⟩

/-- The precondition, read entry by entry. -/
theorem parts (h : fn (F := Ideal) a0 a1 a2 a3 a4 a5 a6 = fun _ => 1#1) :
    (∀ i, ∃ r : ℝ, a0 i = r) ∧ ∀ i, ∃ r : ℝ, a2 i = r ∧ 0 < r ∧ r < 1 := by
  have h1 := congrFun h (fun a => a.elim0)
  unfold fn at h1
  obtain ⟨h2, hc⟩ := IntOp.andi_eq_one.1 h1
  obtain ⟨ha, hb⟩ := IntOp.andi_eq_one.1 h2
  have mu : ∀ i, BitVec.ofBool (decide (FloatOps.absf (F := Ideal) (φ := .f32) (a0 i) < (⊤ : EReal))) = 1#1 := fun i => by
    have e := Host.reduce_andi_all _ _ _ _ _ ha i
    revert e
    pointwise [Network.Consts.inf]
    exact id
  have lower : ∀ i, BitVec.ofBool (decide ((0 : EReal) < a2 i)) = 1#1 := fun i => by
    have e := Host.reduce_andi_all _ _ _ _ _ hb i
    revert e
    pointwise
    exact id
  have upper : ∀ i, BitVec.ofBool (decide (a2 i < (1 : EReal))) = 1#1 := fun i => by
    have e := Host.reduce_andi_all _ _ _ _ _ hc i
    revert e
    pointwise
    exact id
  exact ⟨fun i => real_of_abs (holds (mu i)), fun i => real_of_between (holds (lower i)) (holds (upper i))⟩

end Cert.Pre_pre.Read

end
-- ==== Proof.lean ====
/- The certificate's proof: the frames from the generated runs, the reading of the named constant, and the equality of the
   kernel's and the reference's results, entry by entry. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_pre
public import proofs.«01_k».proof.Proof.KernelRun
public import proofs.«01_k».proof.Proof.KernelValue
public import proofs.«01_k».proof.Proof.Reference
public import proofs.«01_k».proof.Proof.Cell
public import proofs.«01_k».proof.Proof.Pre
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel and the reference agree on every entry of the result. -/
theorem results (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal_pre m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_main_v87 (F := Ideal) m' c
      = (Cert.KernelIdeal.Gen.dat1 (Cert.KernelIdeal.Gen.V2 m ρ) c).arrAt 9 Cert.KernelIdeal.cfg1.N := by
  obtain ⟨mu, gamma⟩ := Cert.Pre_pre.Read.parts _ _ _ _ _ _ _ (hpre c)
  funext i
  obtain ⟨p, q, rfl⟩ : ∃ (p : Fin 2048) (q : Fin 4096), i = ix2 p q := ⟨i 0, i 1, funext fun b => by fin_cases b <;> rfl⟩
  refine (Cert.ReferenceIdeal.Stage.result_apply m' c p q).trans ?_
  refine Eq.trans ?_ (Cert.KernelIdeal.KernelValue.result_apply m ρ c p q).symm
  obtain ⟨x, hx⟩ := mu (ix2 p q)
  obtain ⟨g, hg, g0, g1⟩ := gamma (ix2 p 0)
  rw [h0, h1, h2, h3, h4, h5, h6, hx, hg]
  exact Network.cell x g g0 g1 _ _

/-- The reference runs, keeps its arguments, and ends with every semaphore at zero. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel computes the reference's result at the ideal instance. -/
theorem algebraic : Cert.algebraic_KernelIdeal_ReferenceIdeal_pre_pre := by
  intro m ρ m' ρ' hpre hagree
  refine ⟨_, Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  exact results m ρ m' hpre c h0 h1 h2 h3 h4 h5 h6

/-- Every claim of the certificate. -/
theorem claim : Cert.Claim :=
  ⟨Cert.Kernel.Gen.facts, Cert.KernelIdeal.Gen.facts, Cert.ReferenceIdeal.Gen.facts, Cert.Pre_pre.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    IdealRules.named_const.statement Cert.KernelIdeal.κ "sqrt2" .f32 0x3FB504F3#32 ((Real.sqrt 2 : ℝ) : EReal) rfl,
    algebraic⟩

end Cert.Proof

end
